-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1000000x32 : Shape := ⟨2, ![1000000, 32]⟩
abbrev S250000x128 : Shape := ⟨2, ![250000, 128]⟩
abbrev S4x4 : Shape := ⟨2, ![4, 4]⟩
abbrev S_ : Shape := ⟨0, ![]⟩
abbrev S4x32x4 : Shape := ⟨3, ![4, 32, 4]⟩
abbrev S128x4 : Shape := ⟨2, ![128, 4]⟩
abbrev S250000x4 : Shape := ⟨2, ![250000, 4]⟩
abbrev S10000x128 : Shape := ⟨2, ![10000, 128]⟩
abbrev S10000x4 : Shape := ⟨2, ![10000, 4]⟩
abbrev S1000000 : Shape := ⟨1, ![1000000]⟩

abbrev nBuf : Space → Nat
  | .hbm => 15
  | .vmem => 7
  | .smem => 0
  | _ => 0

abbrev bufTy : (tb : Table) → Fin (tcTables nBuf tb) → BufTy
  | .hbm, ⟨0, _⟩ => ⟨S1000000x32, .f32⟩
  | .hbm, ⟨1, _⟩ => ⟨S1000000x32, .f32⟩
  | .hbm, ⟨2, _⟩ => ⟨S250000x128, .f32⟩
  | .hbm, ⟨3, _⟩ => ⟨S250000x128, .f32⟩
  | .hbm, ⟨4, _⟩ => ⟨S4x4, .i32⟩
  | .hbm, ⟨5, _⟩ => ⟨S4x4, .i32⟩
  | .hbm, ⟨6, _⟩ => ⟨S_, .i32⟩
  | .hbm, ⟨7, _⟩ => ⟨S4x4, .i32⟩
  | .hbm, ⟨8, _⟩ => ⟨S4x4, .i32⟩
  | .hbm, ⟨9, _⟩ => ⟨S4x4, .i1⟩
  | .hbm, ⟨10, _⟩ => ⟨S4x4, .f32⟩
  | .hbm, ⟨11, _⟩ => ⟨S4x32x4, .f32⟩
  | .hbm, ⟨12, _⟩ => ⟨S128x4, .f32⟩
  | .hbm, ⟨13, _⟩ => ⟨S250000x4, .f32⟩
  | .hbm, ⟨14, _⟩ => ⟨S1000000, .f32⟩
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S128x4, .f32⟩
  | .local _ .vmem, ⟨5, _⟩ => ⟨S10000x4, .f32⟩
  | .local _ .vmem, ⟨6, _⟩ => ⟨S10000x4, .f32⟩
  | _, _ => ⟨S1000000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S1000000x32 : Shape := ⟨2, ![1000000, 32]⟩
abbrev S_ : Shape := ⟨0, ![]⟩
abbrev S1000000 : Shape := ⟨1, ![1000000]⟩

abbrev nBuf : Space → Nat
  | .hbm => 5
  | .vmem => 0
  | .smem => 0
  | _ => 0

abbrev bufTy : (tb : Table) → Fin (tcTables nBuf tb) → BufTy
  | .hbm, ⟨0, _⟩ => ⟨S1000000x32, .f32⟩
  | .hbm, ⟨1, _⟩ => ⟨S1000000x32, .f32⟩
  | .hbm, ⟨2, _⟩ => ⟨S1000000x32, .f32⟩
  | .hbm, ⟨3, _⟩ => ⟨S_, .f32⟩
  | .hbm, ⟨4, _⟩ => ⟨S1000000, .f32⟩
  | _, _ => ⟨S1000000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Proof.Value.lean ====
/- The VALUE claim: at the ideal instance the kernel's result at row `n` is the sum over the 32 columns of the products
   of row `n` of its two arguments, which is what the reference computes.

   The kernel reads each argument as 250000 rows of 128 words (four user rows side by side), multiplies them word by
   word, and multiplies each block of 10000 such rows by the 128 x 4 segment matrix, whose entry at (l, b) is 1 if
   word l belongs to user row b of its line and 0 otherwise. The product with the segment matrix is therefore the sum
   of the 32 words of segment b. The module goes outside in: the blocks' geometry and the body's matmul (`final_o`),
   the segment matrix's entries (`seg_apply`), the sum over 128 words cut into four sums over 32 (`sum_segment`), the
   array read back as one vector (`result_apply`). -/
module

public import proofs.«01_k».proof.Defs
public import proofs.«01_k».proof.Proof.Gen.KernelIdeal.Frame
public import proofs.«01_k».proof.Proof.Gen.ReferenceIdeal.Run
public import Idealize.ShloMosaic.Lib.Pipeline.ValueKit
public import Idealize.ShloMosaic.Lib.Claim
public import Idealize.ShloMosaic.Lib.Pointwise

@[expose] public section

noncomputable section

open Idealize.ShloMosaic Idealize.ShloMosaic.TcCoe Idealize.SL.Sem
open Idealize.ShloMosaic.Pipeline (Dat)

namespace Cert.KernelIdeal.RowDot

open Cert.KernelIdeal Cert.KernelIdeal.Gen

variable (m : (ℓ : Loc nD τ sig) → Buf (Elt Ideal) ℓ)

/-- The product of the elementwise product of two 250000 x 128 arrays with a 128 x 4 matrix, as plain sums. -/
def segDot (x y : Vec Ideal S250000x128 .f32) (s : Vec Ideal S128x4 .f32) : Vec Ideal S250000x4 .f32 :=
  fun i => ∑ l : Fin 128, x (ix2 (i 0) l) * y (ix2 (i 0) l) * s (ix2 l (i 1))

/-- One block of the body: the same sums over the block's rows. -/
theorem pay_apply (x y : Vec Ideal S10000x128 .f32) (s : Vec Ideal S128x4 .f32) (j : S10000x4.Idx) :
    k0_pay1 x y s j = ∑ l : Fin 128, x (ix2 (j 0) l) * y (ix2 (j 0) l) * s (ix2 l (j 1)) := by
  pointwise [k0_pay1]

theorem idx_facts : ∀ t : Fin cfg0.N, win0_0.index t = ![t.val, 0] ∧ win0_1.index t = ![t.val, 0]
    ∧ win0_2.index t = ![0, 0] ∧ win0_3.index t = ![t.val, 0] :=
  (by decide +kernel : ∀ t : Fin grid0.N, _)

/-- What the pipelined call leaves in its result: every block is the body's product of the three arrays' blocks. -/
theorem final_o (c : Dev nD) :
    (dats m 0 c).arrAt 3 cfg0.N = segDot (V m c main_v0) (V m c main_v1) (V m c main_v9) := by
  refine (dats m 0 c).arrAt_eq_of_covers 3 _ (by decide +kernel) fun t hf y => ?_
  blk_simp
  rw [after0_3]
  frame_out
  refine (pay_apply _ _ _ y).trans ?_
  obtain ⟨e0, e1, e2, e3⟩ := idx_facts t
  refine Finset.sum_congr rfl fun l _ => ?_
  refine congrArg₂ (· * ·) (congrArg₂ (· * ·) ?_ ?_) ?_
  · blk_simp [iblk]
    refine congrArg (V m c main_v0) ?_
    blk_ext [e0, e3]
  · blk_simp [iblk]
    refine congrArg (V m c main_v1) ?_
    blk_ext [e1, e3]
  · blk_simp [iblk]
    refine congrArg (V m c main_v9) ?_
    blk_ext [e2, e3]

/-- The segment matrix: 1 where word `i 0` of a line belongs to user row `i 1` of it, else 0. -/
theorem seg_apply (c : Dev nD) (i : S128x4.Idx) :
    V m c main_v9 i = if (i 0).val / 32 = (i 1).val then (1 : EReal) else 0 := by
  unfold V V0 hostOps0
  rw [List.flatten_cons, List.flatten_nil, List.append_nil]
  after_results
  pointwise
  have h0 : (i 0).val < 128 := (i 0).isLt
  have h1 : (i 1).val < 4 := (i 1).isLt
  have hw : (BitVec.ofNat 32 ((i 0).val / 32) = BitVec.ofNat 32 (i 1).val) ↔ (i 0).val / 32 = (i 1).val := by
    rw [← BitVec.toNat_inj, BitVec.toNat_ofNat, BitVec.toNat_ofNat, Nat.mod_eq_of_lt (by omega), Nat.mod_eq_of_lt (by omega)]
  have hadd : IntOp.addi (BitVec.ofNat 32 ((i 0).val / 32)) 0#32 = BitVec.ofNat 32 ((i 0).val / 32) := by
    simp [IntOp.addi]
  rw [hadd]
  by_cases h : (i 0).val / 32 = (i 1).val
  · rw [if_pos h, IntOp.cmpi_eq.mpr (hw.mpr h)]
    simp [FloatOps.uitofp]
  · have hz : IntOp.cmpi .eq (BitVec.ofNat 32 ((i 0).val / 32)) (BitVec.ofNat 32 (i 1).val) = 0#1 := by
      show BitVec.ofBool (BitVec.ofNat 32 ((i 0).val / 32) == BitVec.ofNat 32 (i 1).val) = 0#1
      rw [beq_eq_false_iff_ne.mpr fun e => h (hw.mp e)]
      rfl
    rw [if_neg h, hz]
    simp [FloatOps.uitofp]

/-- A line of the first array: words `32 b … 32 b + 31` of line `r` are user row `4 r + b`. -/
theorem V_v0 (c : Dev nD) (r : Fin 250000) (b : Fin 4) (k : Fin 32) (n : Fin 1000000) (hn : n.val = 4 * r.val + b.val) :
    V m c main_v0 (ix2 r (finProdFinEquiv (b, k))) = m ((c.tc : Thread nD τ).loc main_arg0) (ix2 n k) := by
  unfold V V0 hostOps0
  rw [List.flatten_cons, List.flatten_nil, List.append_nil]
  after_results
  pointwise
  refine congrArg (m ((c.tc : Thread nD τ).loc main_arg0)) ?_
  have hv : (finProdFinEquiv (b, k)).val = k.val + 32 * b.val := rfl
  have hk := k.isLt
  refine congrArg₂ ix2 (Fin.ext ?_) (Fin.ext ?_)
  · show r.val * 4 + (finProdFinEquiv (b, k)).val / 32 = n.val
    omega
  · show (finProdFinEquiv (b, k)).val % 32 = k.val
    omega

/-- The same of the second array. -/
theorem V_v1 (c : Dev nD) (r : Fin 250000) (b : Fin 4) (k : Fin 32) (n : Fin 1000000) (hn : n.val = 4 * r.val + b.val) :
    V m c main_v1 (ix2 r (finProdFinEquiv (b, k))) = m ((c.tc : Thread nD τ).loc main_arg1) (ix2 n k) := by
  unfold V V0 hostOps0
  rw [List.flatten_cons, List.flatten_nil, List.append_nil]
  after_results
  pointwise
  refine congrArg (m ((c.tc : Thread nD τ).loc main_arg1)) ?_
  have hv : (finProdFinEquiv (b, k)).val = k.val + 32 * b.val := rfl
  have hk := k.isLt
  refine congrArg₂ ix2 (Fin.ext ?_) (Fin.ext ?_)
  · show r.val * 4 + (finProdFinEquiv (b, k)).val / 32 = n.val
    omega
  · show (finProdFinEquiv (b, k)).val % 32 = k.val
    omega

/-- A sum over 128 words weighted by segment `b`'s column is the sum over the 32 words of segment `b`. The weights are
    0 and 1, and zero times anything is zero at this instance, so nothing is asked of the words left out. -/
theorem sum_segment (f : Fin 128 → EReal) (b : Fin 4) :
    (∑ l : Fin 128, f l * (if l.val / 32 = b.val then (1 : EReal) else 0)) = ∑ k : Fin 32, f (finProdFinEquiv (b, k)) := by
  rw [← (finProdFinEquiv (m := 4) (n := 32)).sum_comp, Fintype.sum_prod_type, Finset.sum_eq_single b]
  · refine Finset.sum_congr rfl fun k _ => ?_
    have hv : (finProdFinEquiv (b, k)).val = k.val + 32 * b.val := rfl
    have hk := k.isLt
    rw [if_pos (by omega), mul_one]
  · intro a _ hab
    refine Finset.sum_eq_zero fun k _ => ?_
    have hv : (finProdFinEquiv (a, k)).val = k.val + 32 * a.val := rfl
    have hk := k.isLt
    rw [if_neg (fun h => hab (Fin.ext (by omega))), mul_zero]
  · exact fun h => absurd (Finset.mem_univ b) h

/-- What both programs compute: at row `n` the sum over the columns of the products of row `n` of the two arguments. -/
def rowSum (x y : Vec Ideal S1000000x32 .f32) : Vec Ideal S1000000 .f32 :=
  fun n => ∑ k : Fin 32, x (ix2 (n 0) k) * y (ix2 (n 0) k)

/-- Row `4 r + b` of the sums is entry (r, b) of the product with the segment matrix. -/
theorem segDot_apply (c : Dev nD) (r : Fin 250000) (b : Fin 4) (n : S1000000.Idx) (hn : (n 0).val = 4 * r.val + b.val) :
    segDot (V m c main_v0) (V m c main_v1) (V m c main_v9) (ix2 r b)
      = rowSum (m ((c.tc : Thread nD τ).loc main_arg0)) (m ((c.tc : Thread nD τ).loc main_arg1)) n := by
  let x : Vec Ideal S250000x128 .f32 := V m c main_v0
  let y : Vec Ideal S250000x128 .f32 := V m c main_v1
  refine (Finset.sum_congr rfl fun l _ => ?_).trans ((sum_segment (fun l => x (ix2 r l) * y (ix2 r l)) b).trans
    (Finset.sum_congr rfl fun k _ => ?_))
  · exact congrArg (x (ix2 r l) * y (ix2 r l) * ·) (seg_apply m c (ix2 l b))
  · exact congrArg₂ (fun p q : EReal => p * q) (V_v0 m c r b k (n 0) hn) (V_v1 m c r b k (n 0) hn)

/-- The result vector of the whole program is the vector of row sums. -/
theorem result_eq (c : Dev nD) :
    Pipeline.afterTail₀ cfgs (dats m) 0 (V0 m) [hostOps1] c main_v11
      = rowSum (m ((c.tc : Thread nD τ).loc main_arg0)) (m ((c.tc : Thread nD τ).loc main_arg1)) := by
  funext n
  have hn : (n 0).val < 1000000 := (n 0).isLt
  unfold Pipeline.afterTail₀ hostOps1
  rw [List.flatten_cons, List.flatten_nil, List.append_nil]
  after_results
  pointwise
  have harr : Pipeline.withArrays (cfgs 0).spec c (V0 m c) (fun w => (dats m 0 c).arrAt w (cfgs 0).N) (Proc.tc.devRef main_v10)
      = (dats m 0 c).arrAt 3 cfg0.N :=
    Pipeline.withArrays_arr (cfgs 0).spec (by decide) c (V0 m c) (fun w => (dats m 0 c).arrAt w (cfgs 0).N) 3
  rw [harr, final_o]
  refine segDot_apply m c _ _ n ?_
  show (n 0).val = 4 * ((n 0).val / 4) + (n 0).val % 4
  omega

end Cert.KernelIdeal.RowDot

namespace Cert.ReferenceIdeal.RowDot

open Cert.ReferenceIdeal Cert.ReferenceIdeal.Gen

/-- The reference's term is the vector of row sums. -/
theorem reference_eq (x y : Vec Ideal S1000000x32 .f32) :
    (Host.reduceAdd (mulf x y) (constant S_ .f32 0x00000000#32) reducesTo_S1000000x32_S1000000_d1 h_S_ : FVec Ideal S1000000 .f32)
      = Cert.KernelIdeal.RowDot.rowSum x y := by
  funext n
  unfold Cert.KernelIdeal.RowDot.rowSum
  pointwise

end Cert.ReferenceIdeal.RowDot
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The reference leaves its arguments alone and has no counter to leave raised. -/
theorem quiescent_reference : quiescent_ReferenceIdeal (hReferenceIdeal := Cert.ReferenceIdeal.Gen.facts) :=
  fun m g _ => (θ_run _ _ _).mono (fun r h => ⟨fun c => (h c).2, sem_eq_zero_of_no_sems (by decide) r.2⟩)
    (Cert.ReferenceIdeal.Value.run (F := Ideal) m g)

/-- At the ideal instance the kernel and the reference end with the same vector: the row sums. -/
theorem algebraic_kernel : algebraic_KernelIdeal_ReferenceIdeal (hKernelIdeal := Cert.KernelIdeal.Gen.facts)
    (hReferenceIdeal := Cert.ReferenceIdeal.Gen.facts) := by
  intro m g m' g' _ hagree
  refine ⟨fun c => Cert.KernelIdeal.RowDot.rowSum (m ((c : Thread Cert.KernelIdeal.nD Cert.KernelIdeal.τ).loc Cert.KernelIdeal.main_arg0))
    (m ((c : Thread Cert.KernelIdeal.nD Cert.KernelIdeal.τ).loc Cert.KernelIdeal.main_arg1)), ?_, ?_⟩
  · refine (θ_run _ _ _).mono (fun r h c => ⟨?_, h.2 c⟩)
      (θ_run_and (Cert.KernelIdeal.Gen.run_main (F := Ideal) m g) (Cert.KernelIdeal.Gen.unchanged (F := Ideal) m g))
    exact ((h.1 c).2 Cert.KernelIdeal.main_v11 (Pipeline.mem_restRefs_of _ (by decide) (by decide))).trans
      (Cert.KernelIdeal.RowDot.result_eq m c)
  · refine (θ_run _ _ _).mono (fun r h c => ⟨?_, (h c).2⟩) (Cert.ReferenceIdeal.Value.run (F := Ideal) m' g')
    refine (h c).1.trans ((Cert.ReferenceIdeal.RowDot.reference_eq _ _).trans ?_)
    rw [(hagree c).1, (hagree c).2]

theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g, quiescent_reference, trivial,
  algebraic_kernel⟩

end Cert.Proof

end
